-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S4x8192 : Shape := ⟨2, ![4, 8192]⟩
abbrev S32768x1024 : Shape := ⟨2, ![32768, 1024]⟩
abbrev S3x32x1024 : Shape := ⟨3, ![3, 32, 1024]⟩
abbrev S3 : Shape := ⟨1, ![3]⟩
abbrev S1x32x1024 : Shape := ⟨3, ![1, 32, 1024]⟩
abbrev S32x1024 : Shape := ⟨2, ![32, 1024]⟩
abbrev S1 : Shape := ⟨1, ![1]⟩
abbrev S_ : Shape := ⟨0, ![]⟩

abbrev nBuf : Table → Nat
  | .hbm => 5
  | .local .scVector .vmem => 1
  | _ => 0

abbrev bufTy : (tb : Table) → Fin (nBuf tb) → BufTy
  | .hbm, ⟨0, _⟩ => ⟨S4x8192x1024, .f32⟩
  | .hbm, ⟨1, _⟩ => ⟨S4x8192, .f32⟩
  | .hbm, ⟨2, _⟩ => ⟨S32768x1024, .f32⟩
  | .hbm, ⟨3, _⟩ => ⟨S32768x1024, .f32⟩
  | .hbm, ⟨4, _⟩ => ⟨S4x8192x1024, .f32⟩
  | .local .scVector .vmem, ⟨0, _⟩ => ⟨S3x32x1024, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_4 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S4x8192 : Shape := ⟨2, ![4, 8192]⟩
abbrev S4x1024 : Shape := ⟨2, ![4, 1024]⟩
abbrev S4 : Shape := ⟨1, ![4]⟩
abbrev S4x1 : Shape := ⟨2, ![4, 1]⟩
abbrev S_ : Shape := ⟨0, ![]⟩
abbrev S4x1024x1 : Shape := ⟨3, ![4, 1024, 1]⟩
abbrev S4x1024x2 : Shape := ⟨3, ![4, 1024, 2]⟩
abbrev S4x1024x1024 : Shape := ⟨3, ![4, 1024, 1024]⟩
abbrev S4096x1024 : Shape := ⟨2, ![4096, 1024]⟩
abbrev S4096 : Shape := ⟨1, ![4096]⟩
abbrev S4096x1 : Shape := ⟨2, ![4096, 1]⟩
abbrev S4096x2 : Shape := ⟨2, ![4096, 2]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .f32⟩
  | .hbm, ⟨2, _⟩ => ⟨S4x1024, .f32⟩
  | .hbm, ⟨3, _⟩ => ⟨S4x1024, .i32⟩
  | .hbm, ⟨4, _⟩ => ⟨S4, .i32⟩
  | .hbm, ⟨5, _⟩ => ⟨S4x1, .i32⟩
  | .hbm, ⟨6, _⟩ => ⟨S4x1024, .i32⟩
  | .hbm, ⟨7, _⟩ => ⟨S_, .i32⟩
  | .hbm, ⟨8, _⟩ => ⟨S4x1024, .i32⟩
  | .hbm, ⟨9, _⟩ => ⟨S4x1024, .i1⟩
  | .hbm, ⟨10, _⟩ => ⟨S_, .i32⟩
  | .hbm, ⟨11, _⟩ => ⟨S4x1024, .i32⟩
  | .hbm, ⟨12, _⟩ => ⟨S4x1024, .i32⟩
  | .hbm, ⟨13, _⟩ => ⟨S4x1024, .i32⟩
  | .hbm, ⟨14, _⟩ => ⟨S_, .i32⟩
  | .hbm, ⟨15, _⟩ => ⟨S4x1024, .i32⟩
  | .hbm, ⟨16, _⟩ => ⟨S4x1024, .i1⟩
  | .hbm, ⟨17, _⟩ => ⟨S_, .i32⟩
  | .hbm, ⟨18, _⟩ => ⟨S4x1024, .i32⟩
  | .hbm, ⟨19, _⟩ => ⟨S4x1024, .i32⟩
  | .hbm, ⟨20, _⟩ => ⟨S4x1024, .i32⟩
  | .hbm, ⟨21, _⟩ => ⟨S4x1024x1, .i32⟩
  | .hbm, ⟨22, _⟩ => ⟨S4x1024x1, .i32⟩
  | .hbm, ⟨23, _⟩ => ⟨S4x1024x2, .i32⟩
  | .hbm, ⟨24, _⟩ => ⟨S4x1024x1024, .f32⟩
  | .hbm, ⟨25, _⟩ => ⟨S4096x1024, .f32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x1, .i32⟩
  | .hbm, ⟨44, _⟩ => ⟨S4096x2, .i32⟩
  | .hbm, ⟨45, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.Steps.lean ====
/-
  The vector subcore's body as a short program: a prologue of three loads, one turn of the three-slot ring for each of
  the chunks, and the last stores and waits. The printed body is that program by unfolding.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Copy

open Cert.KernelIdeal Cert.KernelIdeal.Gen
open Idealize.ShloMosaic Idealize.SL.Sem

variable {F : FTy → Type} [FloatOps F]

/-- The number of a chunk, whatever number it is given as. -/
abbrev ch (n : ℕ) : Fin 32 := ⟨n % 32, Nat.mod_lt _ (by decide)⟩
/-- The slot of the ring that chunk `n` passes through. -/
abbrev sl (n : ℕ) : Fin 3 := ⟨n % 3, Nat.mod_lt _ (by decide)⟩

/-- Slot `k` lies in the ring's buffer. -/
theorem slot_inb (k : Fin 3) : ∀ a, (![k.val, 0, 0] : Fin 3 → Nat) a + S1x32x1024.size a ≤ S3x32x1024.size a := by
  fin_cases k <;> decide
/-- Semaphore `k` lies in its array. -/
theorem sem_inb (k : Fin 3) : ∀ a, (![k.val] : Fin 1 → Nat) a + S1.size a ≤ S3.size a := by
  fin_cases k <;> decide

/-- Chunk `r` of the rows of tile `L`, of a whole array of rows. -/
abbrev chunk (L : grid0.Coords) (a : Memref sig .scVector .hbm S32768x1024 .f32) (r : Fin 32) : Memref sig .scVector .hbm S32x1024 .f32 :=
  a.slice (Rect.unit (s := S32768x1024) (k0_off1 L (BitVec.ofNat 32 (32 * r.val))) S32x1024.size (Facts₀.k0_off1_inb L r)) (fun _ => rfl)

abbrev src (L : grid0.Coords) (r : Fin 32) := chunk L (Memref.whole main_v0_scv) r
abbrev dst (L : grid0.Coords) (r : Fin 32) := chunk L (Memref.whole main_v1_scv) r
/-- Slot `k` of the ring. -/
abbrev slot (k : Fin 3) : Memref sig .scVector .vmem S32x1024 .f32 :=
  ((Memref.whole cc0_scratch0 : Memref sig .scVector .vmem S3x32x1024 .f32).slice (Rect.unit (s := S3x32x1024) ![k.val, 0, 0] S1x32x1024.size (slot_inb k)) (fun _ => rfl)).squeeze
    S32x1024 Facts₀.squeezes_S1x32x1024_S32x1024
/-- The semaphore of the loads into slot `k`. -/
abbrev semI (k : Fin 3) : DmaSem sig := ((cc0_scratch1.slice (Rect.unit (s := S3) ![k.val] S1.size (sem_inb k))).squeeze S_ Facts₀.squeezes_S1_S_).sem
/-- The semaphore of the stores out of slot `k`. -/
abbrev semO (k : Fin 3) : DmaSem sig := ((cc0_scratch2.slice (Rect.unit (s := S3) ![k.val] S1.size (sem_inb k))).squeeze S_ Facts₀.squeezes_S1_S_).sem

/-- A tile's programs. -/
abbrev TP (L : grid0.Coords) (F : FTy → Type) :=
  Prog (TpuEff nD τ sig (Elt F) Λ₀ (.scVector ((L 0).castLE hcore0) ((L 1).castLE hsub0))) PUnit.{1}

/-- Start the load of chunk `n`, then run the rest. -/
def load (L : grid0.Coords) (n : ℕ) (k : TP L F) : TP L F :=
  .op (.enqueueDma (src L (ch n)) (.here (slot (sl n))) (.dma (semI (sl n))) (View.wordExact_bits rfl) ((View.wordExact_bits rfl).reshape _ _) ⟨Or.inl rfl, trivial⟩) fun _ => k
/-- Wait for the load of chunk `n`, then run the rest. -/
def waitI (L : grid0.Coords) (n : ℕ) (k : TP L F) : TP L F :=
  .op (.waitDma2 (semI (sl n)) (src L (ch n)) (slot (sl n)) (View.wordExact_bits rfl) ((View.wordExact_bits rfl).reshape _ _)) fun _ => k
/-- Start the store of chunk `n`, then run the rest. -/
def store (L : grid0.Coords) (n : ℕ) (k : TP L F) : TP L F :=
  .op (.enqueueDma (slot (sl n)) (.here (dst L (ch n))) (.dma (semO (sl n))) ((View.wordExact_bits rfl).reshape _ _) (View.wordExact_bits rfl) ⟨Or.inl rfl, trivial⟩) fun _ => k
/-- Wait for the store of chunk `n`, then run the rest. -/
def waitO (L : grid0.Coords) (n : ℕ) (k : TP L F) : TP L F :=
  .op (.waitDma2 (semO (sl n)) (slot (sl n)) (dst L (ch n)) ((View.wordExact_bits rfl).reshape _ _) (View.wordExact_bits rfl)) fun _ => k

/-- `t` turns of the ring from chunk `n` on: chunk `n` leaves its slot, chunk `n + 3` is loaded into it, and chunk `n + 1`,
    once loaded, is stored. -/
def turns (L : grid0.Coords) : (t n : ℕ) → TP L F → TP L F
  | 0, _, k => k
  | t + 1, n, k => waitO L n <| load L (n + 3) <| waitI L (n + 1) <| store L (n + 1) <| turns L t (n + 1) k

/-- The whole run of a tile. -/
def ring (L : grid0.Coords) : TP L F :=
  load L 0 <| load L 1 <| load L 2 <| waitI L 0 <| store L 0 <| turns L 29 0 <|
    waitI L 30 <| store L 30 <| waitI L 31 <| store L 31 <| waitO L 29 <| waitO L 30 <| waitO L 31 <| .ret ⟨⟩

set_option maxRecDepth 1000000 in
set_option maxHeartbeats 4000000 in
/-- The printed body is the ring. -/
theorem body_eq (L : grid0.Coords) :
    cc0__sc_copy_body (F := F) L (Memref.whole main_v0_scv) (Memref.isWhole_whole _) (Memref.whole main_v1_scv) (Memref.isWhole_whole _)
      (Memref.whole cc0_scratch0) (Memref.isWhole_whole _) cc0_scratch1 cc0_scratch2 = ring L := rfl

end Cert.Proof.Copy

end
-- ==== Proof.Setup.lean ====
/-
  The launch's set-up: the program as the launch theorem sees it, the ghost state, the buffers' names and what a vector
  subcore holds of them.
-/
module

public import proofs.«01_k».proof.Proof.Steps

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and nothing of a SparseCore is shared among its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The arrays, as the TensorCore names them: the two arguments, the flat input, the flat output, the result. -/
abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev yLoc (d : Dev nD) : Loc nD τ sig := (SparseCore.T d).loc main_v1
abbrev rLoc (d : Dev nD) : Loc nD τ sig := (SparseCore.T d).loc main_v2

/-- The SparseCore and the subcore of a point of the grid, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The ring's buffer on a tile. -/
abbrev sLoc (d : Dev nD) (L : grid0.Coords) : Loc nD τ sig := (thr d L).loc cc0_scratch0

/-- The elements of the flat array that chunk `r` of tile `L` holds. -/
abbrev chunkSet (L : grid0.Coords) (r : Fin 32) : Finset S32768x1024.Idx :=
  (Rect.unit (s := S32768x1024) (k0_off1 L (BitVec.ofNat 32 (32 * r.val))) S32x1024.size (Facts₀.k0_off1_inb L r)).set

/-- Chunk `r` of the input, and of the output, at given contents. -/
abbrev inPts (d : Dev nD) (L : grid0.Coords) (r : Fin 32) (f : Buf (Elt F) (xLoc d)) : sProp 𝕄 := xLoc d ↦[chunkSet L r]{fullShare} f
abbrev outPts (d : Dev nD) (L : grid0.Coords) (r : Fin 32) (f : Buf (Elt F) (yLoc d)) : sProp 𝕄 := yLoc d ↦[chunkSet L r]{fullShare} f
/-- Slot `k` of the ring, at given contents. -/
abbrev slotPts (d : Dev nD) (L : grid0.Coords) (k : Fin 3) (f : Buf (Elt F) (sLoc d L)) : sProp 𝕄 := sLoc d L ↦[(slot k).view.set]{fullShare} f

/-- A chunk's elements, of the input and of the output. -/
theorem set_src (L : grid0.Coords) (r : Fin 32) : (src L r).view.set = chunkSet L r := by
  show ((View.whole (main_v0_scv : Ref sig .scVector)).slice _).set = _
  rw [View.set_slice]; exact Finset.map_refl
theorem set_dst (L : grid0.Coords) (r : Fin 32) : (dst L r).view.set = chunkSet L r := by
  show ((View.whole (main_v1_scv : Ref sig .scVector)).slice _).set = _
  rw [View.set_slice]; exact Finset.map_refl

/-- A chunk of the input as the tile addresses it. -/
theorem pts_src (d : Dev nD) (L : grid0.Coords) (r : Fin 32) (f : Buf (Elt F) (xLoc d)) :
    ((src L r).view.loc (thr d L) ↦[(src L r).view.set]{fullShare} f : sProp 𝕄) = inPts d L r f := by rw [set_src]
/-- A chunk of the output as the tile addresses it. -/
theorem pts_dst (d : Dev nD) (L : grid0.Coords) (r : Fin 32) (f : Buf (Elt F) (yLoc d)) :
    ((dst L r).view.loc (thr d L) ↦[(dst L r).view.set]{fullShare} f : sProp 𝕄) = outPts d L r f := by rw [set_dst]

/-- Writing a chunk of the output with what the same chunk of the input holds leaves there the input's elements. -/
theorem write_dst (d : Dev nD) (L : grid0.Coords) (r : Fin 32) (g : Buf (Elt F) (yLoc d)) (f : Buf (Elt F) (xLoc d)) :
    (outPts d L r ((dst L r).view.write (Elt F) g ((src L r).view.read (Elt F) f) Finset.univ) : sProp 𝕄) = outPts d L r f := by
  refine pointsTo_congr fun i hi => ?_
  rw [← set_dst] at hi
  obtain ⟨x, -, rfl⟩ := Finset.mem_map.mp hi
  exact View.write_emb_of_mem _ _ (Finset.mem_univ x)

end Cert.Proof.Copy

end
-- ==== Proof.Ring.lean ====
/-
  The ring on one vector subcore, at a symbolic tile: each of the four operations once, at a symbolic chunk, and the whole
  run by induction on its turns.
-/
module

public import proofs.«01_k».proof.Proof.Setup

@[expose] public section

noncomputable section

namespace Cert.Proof.Copy

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords) (fx : Buf (Elt F) (xLoc d)) (fy : Buf (Elt F) (yLoc d))
variable (O : CellTallies nD τ sig (HIx 1)) (W : Waits sig (HIx 1))

/-- What a tile's run of a program must come to. -/
abbrev wpT (k : TP L F) (Q : PUnit → sProp 𝕄) : sProp 𝕄 := wp frame (wpE (defs₀ (F := F)) 𝒱₀ (thr d L) none) Set.univ k Q

/-- What the tile owes, with the waits it has recorded: its own besides those recorded before. -/
abbrev owing : sProp 𝕄 := iprop(∃ W', ⌜∀ p ∈ W', p ∈ W ∨ p.2 = none⌝ ∗ owes (thr d L) O W')

/-- The counter of a semaphore of the tile's, at zero. -/
abbrev zeroI (k : Fin 3) : sProp 𝕄 := semVal (thr d L, .dma (semI k)) 0
abbrev zeroO (k : Fin 3) : sProp 𝕄 := semVal (thr d L, .dma (semO k)) 0

/-- A slot at some contents. -/
abbrev anySlot (k : Fin 3) : sProp 𝕄 := iprop(∃ f, slotPts d L k f)
/-- The slot of chunk `n` holding that chunk. -/
abbrev fullSlot (n : ℕ) : sProp 𝕄 :=
  iprop(∃ f : Buf (Elt F) (sLoc d L), ⌜(slot (sl n)).view.read (Elt F) f = (src L (ch n)).view.read (Elt F) fx⌝ ∗ slotPts d L (sl n) f)

/-- The bytes of a load and of a store. -/
abbrev amtI : ℕ := (slot 0).view.dmaCredit
abbrev amtO (L : grid0.Coords) : ℕ := (dst L 0).view.dmaCredit

/-- Chunk `n` being loaded: at the wait, its slot holds it and the input's chunk is back. -/
abbrev loading (n : ℕ) : sProp 𝕄 :=
  Transfers.Flight countersEmb (thr d L) (.dma (semI (sl n))) (default : HIx 1) amtI iprop(fullSlot d L fx n ∗ inPts d L (ch n) fx)
/-- Chunk `n` being stored: at the wait, the output's chunk holds the input's and the slot is back. -/
abbrev storing (n : ℕ) : sProp 𝕄 :=
  Transfers.Flight countersEmb (thr d L) (.dma (semO (sl n))) (default : HIx 1) (amtO L) iprop(outPts d L (ch n) fx ∗ anySlot d L (sl n))

/-- The load of chunk `n`. -/
theorem load_wp (n : ℕ) (k : TP L F) (Q : PUnit → sProp 𝕄) :
    iprop(inPts d L (ch n) fx ∗ anySlot d L (sl n) ∗ zeroI d L (sl n))
      ⊢ iprop((loading d L fx n -∗ wpT d L k Q) -∗ wpT d L (load L n k) Q) := by
  iintro ⟨Hx, ⟨%f, Hs⟩, Hz⟩ Hk
  ihave Hx' := (Entails.of_eq (pts_src (F := F) d L _ _).symm) $$ Hx
  unfold load
  iapply (Transfers.wp_dmaLocal countersEmb 𝒱₀ (thr d L) none (default : HIx 1) amtI rfl (by decide) (Finset.Subset.refl _)) $$ [Hx' Hs Hz]
  · isplitl [Hx']; · iexact Hx'
    isplitl [Hs]; · iexact Hs
    iexact Hz
  iintro Hfl
  iapply Hk
  iapply (Transfers.Flight_mono countersEmb (thr d L) ?_) $$ Hfl
  iintro ⟨Hs, Hx⟩
  isplitl [Hs]
  · iexists _; isplitr
    swap; · iexact Hs
    ipureintro; exact View.read_write_univ _ _
  · iapply (Entails.of_eq (pts_src (F := F) d L _ _)); iexact Hx

/-- The wait for the load of chunk `n`. -/
theorem waitI_wp (n : ℕ) (k : TP L F) (Q : PUnit → sProp 𝕄) :
    iprop(loading d L fx n ∗ owing d L O W ∗ Transfers.MayWaits (thr d L) (default : HIx 1) O)
      ⊢ iprop((iprop(fullSlot d L fx n ∗ inPts d L (ch n) fx ∗ zeroI d L (sl n) ∗ owing d L O W) -∗ wpT d L k Q) -∗ wpT d L (waitI L n k) Q) := by
  iintro ⟨Hfl, ⟨%W', %hW', HO⟩, Hmw⟩ Hk
  unfold waitI
  iapply (Transfers.wp_waitLocalO countersEmb 𝒱₀ (thr d L) none (hsrc := View.wordExact_bits rfl) (hdst := (View.wordExact_bits rfl).reshape _ _)
    (default : HIx 1) (show (slot (sl n)).view.dmaCredit = amtI from rfl)) $$ [Hfl HO Hmw]
  · isplitl [Hfl]; · iexact Hfl
    isplitl [HO]; · iexact HO
    iapply (Transfers.MayWaits.elim _) $$ Hmw
  iintro ⟨⟨Hs, Hx⟩, Hz, HO⟩
  iapply Hk
  isplitl [Hs]; · iexact Hs
  isplitl [Hx]; · iexact Hx
  isplitl [Hz]; · iexact Hz
  iexists _; isplitr
  swap; · iexact HO
  ipureintro; intro p hp
  rcases Finset.mem_insert.mp hp with hp | hp; · exact .inr (hp ▸ rfl)
  exact hW' p hp

/-- The store of chunk `n`, from its slot, which holds it. -/
theorem store_wp (n : ℕ) (k : TP L F) (Q : PUnit → sProp 𝕄) :
    iprop(fullSlot d L fx n ∗ outPts d L (ch n) fy ∗ zeroO d L (sl n))
      ⊢ iprop((storing d L fx n -∗ wpT d L k Q) -∗ wpT d L (store L n k) Q) := by
  iintro ⟨⟨%f, %hf, Hs⟩, Hy, Hz⟩ Hk
  ihave Hy' := (Entails.of_eq (pts_dst (F := F) d L _ _).symm) $$ Hy
  unfold store
  iapply (Transfers.wp_dmaLocal countersEmb 𝒱₀ (thr d L) none (default : HIx 1) (amtO L) rfl (show 0 < amtI by decide) (Finset.Subset.refl _)) $$ [Hs Hy' Hz]
  · isplitl [Hs]; · iexact Hs
    isplitl [Hy']; · iexact Hy'
    iexact Hz
  iintro Hfl
  iapply Hk
  iapply (Transfers.Flight_mono countersEmb (thr d L) ?_) $$ Hfl
  iintro ⟨Hy, Hs⟩
  isplitl [Hy]
  · rw [ReadAs.apply_same, hf]
    ihave Hy' := (Entails.of_eq (pts_dst (F := F) d L _ _)) $$ Hy
    iapply (Entails.of_eq (write_dst (F := F) d L _ _ _)); iexact Hy'
  · iexists _; iexact Hs

/-- The wait for the store of chunk `n`. -/
theorem waitO_wp (n : ℕ) (k : TP L F) (Q : PUnit → sProp 𝕄) :
    iprop(storing d L fx n ∗ owing d L O W ∗ Transfers.MayWaits (thr d L) (default : HIx 1) O)
      ⊢ iprop((iprop(outPts d L (ch n) fx ∗ anySlot d L (sl n) ∗ zeroO d L (sl n) ∗ owing d L O W) -∗ wpT d L k Q) -∗ wpT d L (waitO L n k) Q) := by
  iintro ⟨Hfl, ⟨%W', %hW', HO⟩, Hmw⟩ Hk
  unfold waitO
  iapply (Transfers.wp_waitLocalO countersEmb 𝒱₀ (thr d L) none (hsrc := (View.wordExact_bits rfl).reshape _ _) (hdst := View.wordExact_bits rfl)
    (default : HIx 1) (show (dst L (ch n)).view.dmaCredit = amtO L from rfl)) $$ [Hfl HO Hmw]
  · isplitl [Hfl]; · iexact Hfl
    isplitl [HO]; · iexact HO
    iapply (Transfers.MayWaits.elim _) $$ Hmw
  iintro ⟨⟨Hy, Hs⟩, Hz, HO⟩
  iapply Hk
  isplitl [Hy]; · iexact Hy
  isplitl [Hs]; · iexact Hs
  isplitl [Hz]; · iexact Hz
  iexists _; isplitr
  swap; · iexact HO
  ipureintro; intro p hp
  rcases Finset.mem_insert.mp hp with hp | hp; · exact .inr (hp ▸ rfl)
  exact hW' p hp

/-- A chunk before its copy, and after. -/
abbrev fresh (n : ℕ) : sProp 𝕄 := iprop(inPts d L (ch n) fx ∗ outPts d L (ch n) fy)
abbrev copied (n : ℕ) : sProp 𝕄 := iprop(inPts d L (ch n) fx ∗ outPts d L (ch n) fx)

/-- The chunks copied before the turn of chunk `n`, and the ones not yet touched from `n` on. -/
abbrev past (n : ℕ) : sProp 𝕄 := bigSep (Finset.range n) (copied d L fx)
abbrev todo (n : ℕ) : sProp 𝕄 := bigSep (Finset.Ico n 32) (fresh d L fx fy)

omit [FloatOps F] in
/-- Chunk `n + 3` passes through the slot of chunk `n`. -/
theorem sl_turn (n : ℕ) : sl (n + 3) = sl n := Fin.ext (Nat.add_mod_right n 3)

omit [FloatOps F] in
/-- One more chunk copied. -/
theorem past_succ (n : ℕ) : past d L fx (n + 1) = iprop(copied d L fx n ∗ past d L fx n) := by
  unfold past; rw [Finset.range_add_one, SparseCore.bigSep_insert' (by simp)]

omit [FloatOps F] in
/-- The next chunk taken off those not yet touched. -/
theorem todo_step {n : ℕ} (h : n < 32) : todo d L fx fy n = iprop(fresh d L fx fy n ∗ todo d L fx fy (n + 1)) := by
  unfold todo; rw [← Finset.insert_Ico_add_one_left_eq_Ico h, SparseCore.bigSep_insert' (by simp)]

/-- The ring as chunk `n`'s turn begins: the chunk is being stored, the two after it loaded. -/
def state (n : ℕ) : sProp 𝕄 :=
  iprop(past d L fx n ∗ (inPts d L (ch n) fx ∗ storing d L fx n ∗ zeroI d L (sl n))
    ∗ (outPts d L (ch (n + 1)) fy ∗ loading d L fx (n + 1) ∗ zeroO d L (sl (n + 1)))
    ∗ (outPts d L (ch (n + 2)) fy ∗ loading d L fx (n + 2) ∗ zeroO d L (sl (n + 2)))
    ∗ todo d L fx fy (n + 3) ∗ owing d L O W)

/-- One turn of the ring, at a symbolic chunk. -/
theorem turn_wp (n : ℕ) (hn : n + 3 < 32) (k : TP L F) (Q : PUnit → sProp 𝕄) :
    iprop(Transfers.MayWaits (thr d L) (default : HIx 1) O ∗ state d L fx fy O W n)
      ⊢ iprop((state d L fx fy O W (n + 1) -∗ wpT d L k Q)
        -∗ wpT d L (waitO L n <| load L (n + 3) <| waitI L (n + 1) <| store L (n + 1) k) Q) := by
  unfold state
  rw [todo_step d L fx fy hn, past_succ]
  iintro ⟨#Hmw, Hp, ⟨Hx0, Hst, Hz0⟩, ⟨Hy1, Hl1, Hz1⟩, ⟨Hy2, Hl2, Hz2⟩, ⟨⟨Hx3, Hy3⟩, Ht⟩, HO⟩ Hk
  iapply (waitO_wp d L fx O W n _ Q) $$ [Hst HO]
  · isplitl [Hst]; · iexact Hst
    isplitl [HO]; · iexact HO
    iexact Hmw
  iintro ⟨Hy0, Hs, Hzo, HO⟩
  iapply (load_wp d L fx (n + 3) _ Q) $$ [Hx3 Hs Hz0]
  · rw [sl_turn]
    isplitl [Hx3]; · iexact Hx3
    isplitl [Hs]; · iexact Hs
    iexact Hz0
  iintro Hl3
  iapply (waitI_wp d L fx O W (n + 1) _ Q) $$ [Hl1 HO]
  · isplitl [Hl1]; · iexact Hl1
    isplitl [HO]; · iexact HO
    iexact Hmw
  iintro ⟨Hs, Hx1, Hzi, HO⟩
  iapply (store_wp d L fx fy (n + 1) _ Q) $$ [Hs Hy1 Hz1]
  · isplitl [Hs]; · iexact Hs
    isplitl [Hy1]; · iexact Hy1
    iexact Hz1
  iintro Hst
  iapply Hk
  isplitl [Hp Hx0 Hy0]
  · isplitr [Hp]
    · isplitl [Hx0] <;> iassumption
    · iexact Hp
  isplitl [Hx1 Hst Hzi]
  · isplitl [Hx1]; · iexact Hx1
    isplitl [Hst]; · iexact Hst
    iexact Hzi
  isplitl [Hy2 Hl2 Hz2]
  · isplitl [Hy2]; · iexact Hy2
    isplitl [Hl2]; · iexact Hl2
    iexact Hz2
  isplitl [Hy3 Hl3 Hzo]
  · isplitl [Hy3]; · iexact Hy3
    isplitl [Hl3]; · iexact Hl3
    rw [show n + 1 + 2 = n + 3 from rfl, sl_turn]; iexact Hzo
  isplitl [Ht]; · iexact Ht
  iexact HO

/-- Any number of turns, by induction. -/
theorem turns_wp (k : TP L F) (Q : PUnit → sProp 𝕄) : ∀ (t n : ℕ), n + t + 3 ≤ 32 →
    iprop(Transfers.MayWaits (thr d L) (default : HIx 1) O ∗ state d L fx fy O W n)
      ⊢ iprop((state d L fx fy O W (n + t) -∗ wpT d L k Q) -∗ wpT d L (turns L t n k) Q)
  | 0, n, _ => by
    iintro ⟨-, Hs⟩ Hk
    iapply Hk; iexact Hs
  | t + 1, n, h => by
    iintro ⟨#Hmw, Hs⟩ Hk
    unfold turns
    iapply (turn_wp d L fx fy O W n (by omega) _ Q) $$ [Hs]
    · isplitr [Hs]; · iexact Hmw
      iexact Hs
    iintro Hs
    iapply (turns_wp k Q t (n + 1) (by omega)) $$ [Hs]
    · isplitr [Hs]; · iexact Hmw
      iexact Hs
    rw [show n + 1 + t = n + (t + 1) by omega]
    iexact Hk

/-- The ring's own storage at rest: the three slots at any contents, the six counters at zero. -/
abbrev rest : sProp 𝕄 :=
  iprop((anySlot d L 0 ∗ anySlot d L 1 ∗ anySlot d L 2) ∗ (zeroI d L 0 ∗ zeroI d L 1 ∗ zeroI d L 2) ∗ (zeroO d L 0 ∗ zeroO d L 1 ∗ zeroO d L 2))

/-- A tile's whole run: every chunk of its output ends at what the same chunk of its input holds, and its own storage is at
    rest again. -/
theorem ring_wp :
    iprop(Transfers.MayWaits (thr d L) (default : HIx 1) O ∗ todo d L fx fy 0 ∗ rest d L ∗ owing d L O W)
      ⊢ wpT d L (ring L) fun _ => iprop(past d L fx 32 ∗ rest d L ∗ owing d L O W) := by
  rw [todo_step d L fx fy (n := 0) (by decide), todo_step d L fx fy (n := 0 + 1) (by decide), todo_step d L fx fy (n := 0 + 1 + 1) (by decide)]
  iintro ⟨#Hmw, ⟨⟨Hx0, Hy0⟩, ⟨Hx1, Hy1⟩, ⟨Hx2, Hy2⟩, Ht⟩, ⟨⟨Hs0, Hs1, Hs2⟩, ⟨Hi0, Hi1, Hi2⟩, ⟨Ho0, Ho1, Ho2⟩⟩, HO⟩
  unfold ring
  iapply (load_wp d L fx 0 _ _) $$ [Hx0 Hs0 Hi0]
  · isplitl [Hx0]; · iexact Hx0
    isplitl [Hs0]; · iexact Hs0
    iexact Hi0
  iintro Hl0
  iapply (load_wp d L fx 1 _ _) $$ [Hx1 Hs1 Hi1]
  · isplitl [Hx1]; · iexact Hx1
    isplitl [Hs1]; · iexact Hs1
    iexact Hi1
  iintro Hl1
  iapply (load_wp d L fx 2 _ _) $$ [Hx2 Hs2 Hi2]
  · isplitl [Hx2]; · iexact Hx2
    isplitl [Hs2]; · iexact Hs2
    iexact Hi2
  iintro Hl2
  iapply (waitI_wp d L fx O W 0 _ _) $$ [Hl0 HO]
  · isplitl [Hl0]; · iexact Hl0
    isplitl [HO]; · iexact HO
    iexact Hmw
  iintro ⟨Hs0, Hx0, Hi0, HO⟩
  iapply (store_wp d L fx fy 0 _ _) $$ [Hs0 Hy0 Ho0]
  · isplitl [Hs0]; · iexact Hs0
    isplitl [Hy0]; · iexact Hy0
    iexact Ho0
  iintro Hst
  iapply (turns_wp d L fx fy O W _ _ 29 0 (by decide)) $$ [Hst Hx0 Hi0 Hy1 Hl1 Ho1 Hy2 Hl2 Ho2 Ht HO]
  · isplitr; · iexact Hmw
    unfold state
    isplitr
    · rw [show past d L fx 0 = iprop(emp) from rfl]; iempintro
    isplitl [Hx0 Hst Hi0]
    · isplitl [Hx0]; · iexact Hx0
      isplitl [Hst]; · iexact Hst
      iexact Hi0
    isplitl [Hy1 Hl1 Ho1]
    · isplitl [Hy1]; · iexact Hy1
      isplitl [Hl1]; · iexact Hl1
      iexact Ho1
    isplitl [Hy2 Hl2 Ho2]
    · isplitl [Hy2]; · iexact Hy2
      isplitl [Hl2]; · iexact Hl2
      iexact Ho2
    isplitl [Ht]; · iexact Ht
    iexact HO
  unfold state
  iintro ⟨Hp, ⟨Hx29, Hst29, Hi2⟩, ⟨Hy30, Hl30, Ho0⟩, ⟨Hy31, Hl31, Ho1⟩, -, HO⟩
  iapply (waitI_wp d L fx O W 30 _ _) $$ [Hl30 HO]
  · isplitl [Hl30]; · iexact Hl30
    isplitl [HO]; · iexact HO
    iexact Hmw
  iintro ⟨Hs0, Hx30, Hi0, HO⟩
  iapply (store_wp d L fx fy 30 _ _) $$ [Hs0 Hy30 Ho0]
  · isplitl [Hs0]; · iexact Hs0
    isplitl [Hy30]; · iexact Hy30
    iexact Ho0
  iintro Hst30
  iapply (waitI_wp d L fx O W 31 _ _) $$ [Hl31 HO]
  · isplitl [Hl31]; · iexact Hl31
    isplitl [HO]; · iexact HO
    iexact Hmw
  iintro ⟨Hs1, Hx31, Hi1, HO⟩
  iapply (store_wp d L fx fy 31 _ _) $$ [Hs1 Hy31 Ho1]
  · isplitl [Hs1]; · iexact Hs1
    isplitl [Hy31]; · iexact Hy31
    iexact Ho1
  iintro Hst31
  iapply (waitO_wp d L fx O W 29 _ _) $$ [Hst29 HO]
  · isplitl [Hst29]; · iexact Hst29
    isplitl [HO]; · iexact HO
    iexact Hmw
  iintro ⟨Hy29, Hs2, Ho2, HO⟩
  iapply (waitO_wp d L fx O W 30 _ _) $$ [Hst30 HO]
  · isplitl [Hst30]; · iexact Hst30
    isplitl [HO]; · iexact HO
    iexact Hmw
  iintro ⟨Hy30, Hs0, Ho0, HO⟩
  iapply (waitO_wp d L fx O W 31 _ _) $$ [Hst31 HO]
  · isplitl [Hst31]; · iexact Hst31
    isplitl [HO]; · iexact HO
    iexact Hmw
  iintro ⟨Hy31, Hs1, Ho1, HO⟩
  unfold wpT
  sl_step
  rw [past_succ d L fx 31, past_succ d L fx 30, past_succ d L fx 29]
  isplitl [Hp Hx29 Hy29 Hx30 Hy30 Hx31 Hy31]
  · isplitl [Hx31 Hy31]; · isplitl [Hx31] <;> iassumption
    isplitl [Hx30 Hy30]; · isplitl [Hx30] <;> iassumption
    isplitl [Hx29 Hy29]; · isplitl [Hx29] <;> iassumption
    iexact Hp
  isplitr [HO]
  · isplitl [Hs0 Hs1 Hs2]
    · isplitl [Hs0]; · iexact Hs0
      isplitl [Hs1]; · iexact Hs1
      iexact Hs2
    isplitl [Hi0 Hi1 Hi2]
    · isplitl [Hi0]; · iexact Hi0
      isplitl [Hi1]; · iexact Hi1
      iexact Hi2
    isplitl [Ho0]; · iexact Ho0
    isplitl [Ho1]; · iexact Ho1
    iexact Ho2
  iexact HO

end Tile

end Cert.Proof.Copy

end
-- ==== Proof.Cover.lean ====
/-
  How the arrays fall into chunks and the ring's buffer into slots: which elements each holds, that no two share one, and
  that together they are everything.
-/
module

public import proofs.«01_k».proof.Proof.Ring

@[expose] public section

noncomputable section

namespace Cert.Proof.Copy

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The point of the grid for a SparseCore and a subcore. -/
def at' (c : Fin (grid0.bound 0)) (s : Fin (grid0.bound 1)) : grid0.Coords :=
  fun | 0 => c | 1 => s | ⟨_ + 2, h⟩ => absurd h (Nat.not_lt.2 (Nat.le_add_left _ _))

omit [FloatOps F] in
/-- An element lies in chunk `r` of tile `L` exactly when its row, counted in chunks, is that chunk's number. -/
theorem mem_chunkSet (L : grid0.Coords) (r : Fin 32) (x : S32768x1024.Idx) :
    x ∈ chunkSet L r ↔ (x 0).val / 32 = 64 * (L 1).val + 32 * (L 0).val + r.val := by
  unfold chunkSet
  rw [Rect.mem_set_unit, k0_off1_eq]
  have h1 : (x 1).val < 1024 := (x 1).isLt
  constructor
  · intro h
    have h0 := h 0
    have e0 : 2048 * (L 1).val + 1024 * (L 0).val + 32 * r.val ≤ (x 0).val := h0.1
    have e1 : (x 0).val < 2048 * (L 1).val + 1024 * (L 0).val + 32 * r.val + 32 := h0.2
    omega
  · intro h a
    match a with
    | 0 =>
      show 2048 * (L 1).val + 1024 * (L 0).val + 32 * r.val ≤ (x 0).val ∧ (x 0).val < 2048 * (L 1).val + 1024 * (L 0).val + 32 * r.val + 32
      omega
    | 1 => exact ⟨Nat.zero_le _, by show (x 1).val < 0 + 1024; omega⟩

/-- The chunks' names: SparseCore, subcore, chunk. -/
abbrev Name : Type := Fin 2 × Fin 16 × Fin 32
abbrev chunkOf (t : Name) : Finset S32768x1024.Idx := chunkSet (at' t.1 t.2.1) t.2.2

omit [FloatOps F] in
/-- The chunk named `t` holds the rows whose number, counted in chunks, is `t`'s. -/
theorem mem_chunkOf (t : Name) (x : S32768x1024.Idx) : x ∈ chunkOf t ↔ (x 0).val / 32 = 64 * t.2.1.val + 32 * t.1.val + t.2.2.val :=
  mem_chunkSet _ _ x

omit [FloatOps F] in
/-- No two chunks share an element. -/
theorem chunks_disjoint : ∀ t ∈ (Finset.univ : Finset Name), ∀ t' ∈ (Finset.univ : Finset Name), t ≠ t' → Disjoint (chunkOf t) (chunkOf t') := by
  intro t _ t' _ hne
  rw [Finset.disjoint_left]
  intro x hx hx'
  rw [mem_chunkOf] at hx hx'
  obtain ⟨c, s, j⟩ := t
  obtain ⟨c', s', j'⟩ := t'
  have := c.isLt; have := c'.isLt; have := j.isLt; have := j'.isLt
  dsimp only at hx hx'
  refine hne (Prod.ext (Fin.ext ?_) (Prod.ext (Fin.ext ?_) (Fin.ext ?_))) <;> dsimp only <;> omega

omit [FloatOps F] in
/-- Every element lies in some chunk. -/
theorem chunks_cover : (Finset.univ : Finset Name).biUnion chunkOf = Finset.univ := by
  ext x
  simp only [Finset.mem_univ, iff_true, Finset.mem_biUnion, true_and]
  have h0 : (x 0).val < 32768 := (x 0).isLt
  refine ⟨(⟨(x 0).val / 1024 % 2, by omega⟩, ⟨(x 0).val / 2048, by omega⟩, ⟨(x 0).val / 32 % 32, by omega⟩), ?_⟩
  rw [mem_chunkOf]
  dsimp only
  omega

/-- Something over the chunks' names, tile by tile, a tile's chunks counted from zero. -/
theorem over_names (Φ : Fin 2 → Fin 16 → Fin 32 → sProp 𝕄) :
    (bigSep Finset.univ fun t : Name => Φ t.1 t.2.1 t.2.2)
      = bigSep Finset.univ fun c => bigSep Finset.univ fun s => bigSep (Finset.range 32) fun j => Φ c s (ch j) := by
  rw [bigSep_univ_prod]
  refine bigSep_congr fun c _ => ?_
  rw [bigSep_univ_prod]
  refine bigSep_congr fun s _ => ?_
  rw [← show Finset.univ.map (Fin.valEmbedding (n := 32)) = Finset.range 32 by decide, bigSep_map]
  exact bigSep_congr fun j _ => congrArg (Φ c s) (Fin.ext (Nat.mod_eq_of_lt j.isLt).symm)

/-- The flat input is its chunks, over all tiles. -/
theorem in_chunks (d : Dev nD) (f : Buf (Elt F) (xLoc d)) :
    (xLoc d ↦{fullShare} f : sProp 𝕄)
      = bigSep Finset.univ fun c : Fin 2 => bigSep Finset.univ fun s : Fin 16 => bigSep (Finset.range 32) fun j => inPts d (at' c s) (ch j) f := by
  rw [← over_names fun c s r => inPts d (at' c s) r f, ← pointsTo_biUnion Finset.univ (ℓ := xLoc d) chunkOf chunks_disjoint, chunks_cover]; try rfl

/-- The flat output is its chunks, over all tiles. -/
theorem out_chunks (d : Dev nD) (f : Buf (Elt F) (yLoc d)) :
    (yLoc d ↦{fullShare} f : sProp 𝕄)
      = bigSep Finset.univ fun c : Fin 2 => bigSep Finset.univ fun s : Fin 16 => bigSep (Finset.range 32) fun j => outPts d (at' c s) (ch j) f := by
  rw [← over_names fun c s r => outPts d (at' c s) r f, ← pointsTo_biUnion Finset.univ (ℓ := yLoc d) chunkOf chunks_disjoint, chunks_cover]; try rfl

/-! ## The ring's buffer -/

/-- The elements of slot `k`. -/
abbrev slotSet (k : Fin 3) : Finset S3x32x1024.Idx := (slot k).view.set

omit [FloatOps F] in
/-- An element lies in slot `k` exactly when its first coordinate is `k`. -/
theorem mem_slotSet (k : Fin 3) (x : S3x32x1024.Idx) : x ∈ slotSet k ↔ (x 0).val = k.val := by
  have e : slotSet k = (Rect.unit (s := S3x32x1024) ![k.val, 0, 0] S1x32x1024.size (slot_inb k)).set := by
    show (((View.whole (cc0_scratch0 : Ref sig .scVector)).slice _).reshape _ _).set = _
    rw [View.set_reshape, View.set_slice]; exact Finset.map_refl
  rw [e, Rect.mem_set_unit]
  constructor
  · intro h
    have e0 : k.val ≤ (x 0).val := (h 0).1
    have e1 : (x 0).val < k.val + 1 := (h 0).2
    omega
  · intro h a
    match a with
    | 0 => exact ⟨by show k.val ≤ (x 0).val; omega, by show (x 0).val < k.val + 1; omega⟩
    | 1 => exact ⟨Nat.zero_le _, by show (x 1).val < 0 + 32; have : (x 1).val < 32 := (x 1).isLt; omega⟩
    | 2 => exact ⟨Nat.zero_le _, by show (x 2).val < 0 + 1024; have : (x 2).val < 1024 := (x 2).isLt; omega⟩

omit [FloatOps F] in
/-- No two slots share an element. -/
theorem slots_disjoint : ∀ k ∈ (Finset.univ : Finset (Fin 3)), ∀ k' ∈ (Finset.univ : Finset (Fin 3)), k ≠ k' → Disjoint (slotSet k) (slotSet k') := by
  intro k _ k' _ hne
  rw [Finset.disjoint_left]
  intro x hx hx'
  rw [mem_slotSet] at hx hx'
  exact hne (Fin.ext (hx.symm.trans hx'))

omit [FloatOps F] in
/-- Every element of the ring's buffer lies in some slot. -/
theorem slots_cover : (Finset.univ : Finset (Fin 3)).biUnion slotSet = Finset.univ := by
  ext x
  simp only [Finset.mem_univ, iff_true, Finset.mem_biUnion, true_and]
  exact ⟨⟨(x 0).val, (x 0).isLt⟩, (mem_slotSet _ x).mpr rfl⟩

omit [FloatOps F] in
/-- Something over the three slots, one by one. -/
theorem over_slots (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

/-- The ring's buffer at some contents is its three slots at some contents. -/
theorem ring_slots (d : Dev nD) (L : grid0.Coords) :
    (iprop(∃ f, sLoc d L ↦{fullShare} f) : sProp 𝕄) ⊢ iprop(anySlot d L 0 ∗ anySlot d L 1 ∗ anySlot d L 2) := by
  have h (f : Buf (Elt F) (sLoc d L)) : (sLoc d L ↦{fullShare} f : sProp 𝕄) = iprop(slotPts d L 0 f ∗ slotPts d L 1 f ∗ slotPts d L 2 f) := by
    rw [← over_slots fun k => slotPts d L k f, ← pointsTo_biUnion Finset.univ (ℓ := sLoc d L) slotSet slots_disjoint, slots_cover]; try rfl
  iintro ⟨%f, Hf⟩
  ihave H := (Entails.of_eq (h f)) $$ Hf
  icases H with ⟨H0, H1, H2⟩
  isplitl [H0]; · iexists f; iexact H0
  isplitl [H1]; · iexists f; iexact H1
  iexists f; iexact H2

/-- Three slots at some contents are the ring's buffer at some contents. -/
theorem slots_ring (d : Dev nD) (L : grid0.Coords) :
    iprop(anySlot d L 0 ∗ anySlot d L 1 ∗ anySlot d L 2) ⊢ (iprop(∃ f, sLoc d L ↦{fullShare} f) : sProp 𝕄) := by
  iintro ⟨⟨%f0, H0⟩, ⟨%f1, H1⟩, ⟨%f2, H2⟩⟩
  have h := over_slots (F := F) fun k => slotPts d L k (![f0, f1, f2] k)
  ihave H := (Entails.of_eq h.symm) $$ [H0 H1 H2]
  · isplitl [H0]; · iexact H0
    isplitl [H1]; · iexact H1
    iexact H2
  ihave H' := (pointsTo_biUnion_join (ℓ := sLoc d L) (q := fullShare) (Val := Elt F) Finset.univ slotSet (fun k => ![f0, f1, f2] k) f0 slots_disjoint) $$ H
  icases H' with ⟨%g, -, Hg⟩
  rw [slots_cover]
  iexists g; iexact Hg

end Cert.Proof.Copy

end
-- ==== Proof.Tile.lean ====
/-
  One tile's run inside the launch: what the launch hands a tile of its own storage contains the ring's buffer and the six
  semaphores, and the kernel's body is the ring.
-/
module

public import proofs.«01_k».proof.Proof.Cover

@[expose] public section

noncomputable section

namespace Cert.Proof.Copy

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Semaphore number `j` of the six: the three of the loads, then the three of the stores. -/
abbrev semOf (j : Fin 6) : DmaSem sig := if h : j.val < 3 then semI ⟨j.val, h⟩ else semO ⟨j.val - 3, by omega⟩

omit [FloatOps F] in
/-- The six are distinct. -/
theorem semOf_injective : Function.Injective semOf := by decide

/-- The six as the launch names a thread's semaphores. -/
abbrev cellOf : Fin 6 ↪ GSem nD τ sig := ⟨fun j => (thr d L, .dma (semOf j)), fun a b h => semOf_injective (SemLoc.dma.inj (Prod.ext_iff.mp h).2)⟩

omit [FloatOps F] in
/-- Each belongs to the tile. -/
theorem cells_sub : Finset.univ.map (cellOf d L) ⊆ ownCells (thr d L) := by
  intro g hg
  obtain ⟨j, -, rfl⟩ := Finset.mem_map.mp hg
  exact (mem_ownCells (g := (thr d L, .dma (semOf j)))).mpr ⟨rfl, by
    show (SemLoc.dma (semOf j) : SemLoc sig).isScoped .scVector = true
    clear hg; revert j; decide⟩

/-- The tile's other semaphores, and its other buffers. -/
abbrev otherSems : sProp 𝕄 := bigSep (ownCells (thr d L) \ Finset.univ.map (cellOf d L)) fun g => semVal g 0
abbrev otherBufs : sProp 𝕄 :=
  bigSep ((ownRefs (τ := τ) (.scVector (cV L) (jV L))).erase ((Proc.scVector (cV L) (jV L)).devRef cc0_scratch0))
    fun b => iprop(∃ f, ((d, b) : Loc nD τ sig) ↦{fullShare} f)

/-- The tile's semaphores are the ring's six and the others. -/
theorem ownSems0_tile :
    (ownSems0 (thr d L) : sProp 𝕄)
      = iprop((zeroI d L 0 ∗ zeroI d L 1 ∗ zeroI d L 2 ∗ zeroO d L 0 ∗ zeroO d L 1 ∗ zeroO d L 2) ∗ otherSems d L) := by
  have h6 : (bigSep (Finset.univ.map (cellOf d L)) fun g => semVal g 0 : sProp 𝕄)
      = iprop(zeroI d L 0 ∗ zeroI d L 1 ∗ zeroI d L 2 ∗ zeroO d L 0 ∗ zeroO d L 1 ∗ zeroO d L 2) := by
    rw [bigSep_map, show (Finset.univ : Finset (Fin 6)) = {0, 1, 2, 3, 4, 5} by decide, SparseCore.bigSep_insert' (by decide),
      SparseCore.bigSep_insert' (by decide), SparseCore.bigSep_insert' (by decide), SparseCore.bigSep_insert' (by decide),
      SparseCore.bigSep_insert' (by decide), bigSep_singleton]
    rfl
  unfold SparseCore.Cfg.ownSems0
  rw [← h6]
  exact bigSep_sdiff_split (cells_sub d L)

omit [FloatOps F] in
/-- The tile's buffers are the ring's and the others. -/
theorem ownBufs_tile : (ownBufs (thr d L) : sProp 𝕄) = iprop((∃ f, sLoc d L ↦{fullShare} f) ∗ otherBufs d L) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- A tile's task: from its chunks of the two arrays to the same chunks, the output's copied from the input's. -/
theorem tile_body (fx : Buf (Elt F) (xLoc d)) (fy : Buf (Elt F) (yLoc d)) (O : CellTallies nD τ sig (HIx 1)) (W : Waits sig (HIx 1))
    (hO : ∀ g, O g none = 0) :
    iprop(levAts (K (F := F)).L (K (F := F)).lev ∗ emp ∗ bigSep (Finset.range 32) (fresh d L fx fy)
        ∗ scopedBufs (thr d L) ∗ scopedSems0 (thr d L) ∗ owes (thr d L) O W)
      ⊢ wp frame (wpE (defs₀ (F := F)) 𝒱₀ (thr d L) none) Set.univ
          (cc0__sc_copy_body L (Memref.whole main_v0_scv) (Memref.isWhole_whole _) (Memref.whole main_v1_scv) (Memref.isWhole_whole _)
            (Memref.whole cc0_scratch0) (Memref.isWhole_whole _) cc0_scratch1 cc0_scratch2)
          fun _ => iprop(bigSep (Finset.range 32) (copied d L fx) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_tile, ownBufs_tile,
    body_eq, show Finset.range 32 = Finset.Ico 0 32 by decide]
  iintro ⟨#Hlv, -, Hgo, ⟨Hs, Hbufs⟩, ⟨⟨Hi0, Hi1, Hi2, Ho0, Ho1, Ho2⟩, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r frame (wpE (defs₀ (F := F)) 𝒱₀ (thr d L) none) Set.univ (Q := fun _ => iprop(past d L fx 32 ∗ rest d L ∗ owing d L O W)))
  isplitr [Hbufs Hsems]
  · iapply (ring_wp d L fx fy O W)
    isplitl [Hmw]; · iexact Hmw
    isplitl [Hgo]; · iexact Hgo
    isplitl [Hs Hi0 Hi1 Hi2 Ho0 Ho1 Ho2]
    · isplitl [Hs]; · iapply (ring_slots d L); iexact Hs
      isplitl [Hi0 Hi1 Hi2]
      · isplitl [Hi0]; · iexact Hi0
        isplitl [Hi1]; · iexact Hi1
        iexact Hi2
      isplitl [Ho0]; · iexact Ho0
      isplitl [Ho1]; · iexact Ho1
      iexact Ho2
    iexists W; isplitr
    · ipureintro; exact fun p hp => .inl hp
    · iexact HO
  iintro %_ ⟨Hp, ⟨Hs, ⟨Hi0, Hi1, Hi2⟩, ⟨Ho0, Ho1, Ho2⟩⟩, HO⟩
  isplitl [Hp]; · iexact Hp
  isplitl [Hs Hbufs]
  · isplitl [Hs]; · iapply (slots_ring d L); iexact Hs
    iexact Hbufs
  isplitr [HO]
  · isplitr [Hsems]
    · isplitl [Hi0]; · iexact Hi0
      isplitl [Hi1]; · iexact Hi1
      isplitl [Hi2]; · iexact Hi2
      isplitl [Ho0]; · iexact Ho0
      isplitl [Ho1]; · iexact Ho1
      iexact Ho2
    · iexact Hsems
  iexact HO

end Cert.Proof.Copy

end
-- ==== Proof.Launch.lean ====
/-
  The launch: what the one call hands each SparseCore and each tile and gets back, @main's two reshapes around it, and the
  whole program's run — the result ends at the first argument's elements, the arguments unchanged, every counter at zero.
-/
module

public import proofs.«01_k».proof.Proof.Tile

@[expose] public section

noncomputable section

namespace Cert.Proof.Copy

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' contents through @main -/

/-- The references of @main's five arrays. -/
abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev y' : DevRef τ sig := Proc.devRef .tc (main_v1 : Ref sig .tc)
abbrev r' : DevRef τ sig := Proc.devRef .tc (main_v2 : Ref sig .tc)
abbrev five : Finset (DevRef τ sig) := {a', b', x', y', r'}

abbrev opIn : HloOp τ sig (Elt F) := StableHlo.reshape main_arg0 main_v0 (rfl : (.f32 : EltTy) = .f32) Facts₀.shapeCasts_S4x8192x1024_S32768x1024
abbrev opOut : HloOp τ sig (Elt F) := StableHlo.reshape main_v1 main_v2 (rfl : (.f32 : EltTy) = .f32) Facts₀.shapeCasts_S32768x1024_S4x8192x1024

/-- The flat input: the first argument's elements in order. -/
def flat (d : Dev nD) : Buf (Elt F) (xLoc d) := shapeCast S32768x1024 (m (aLoc d)) Facts₀.shapeCasts_S4x8192x1024_S32768x1024

/-- The contents at the launch, after the first reshape, after the call, and at the end. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) y' (flat m d)
def V3 (d : Dev nD) : Valuation τ sig (Elt F) := (opOut (F := F)).result (V2 m d)

theorem V1_x (d : Dev nD) : V1 m d x' = flat m d := StableHlo.reshape_result ..
theorem V1_ne (d : Dev nD) {b : Ref sig .tc} (h : b ≠ main_v0) : V1 m d (Proc.devRef .tc b) = m ((SparseCore.T d).loc b) :=
  StableHlo.reshape_result_ne (h := h) ..
theorem V2_y (d : Dev nD) : V2 m d y' = flat m d := Function.update_self _ _ _
theorem V2_ne (d : Dev nD) {b : DevRef τ sig} (h : b ≠ y') : V2 m d b = V1 m d b := Function.update_of_ne h _ _
theorem V3_ne (d : Dev nD) {b : Ref sig .tc} (h : b ≠ main_v2) : V3 m d (Proc.devRef .tc b) = V2 m d (Proc.devRef .tc b) :=
  StableHlo.reshape_result_ne (h := h) ..
/-- The result at the end: flattened and unflattened again, the first argument. -/
theorem V3_r (d : Dev nD) : V3 m d r' = m (aLoc d) := by
  refine (StableHlo.reshape_result ..).trans ?_
  show shapeCast S4x8192x1024 (V2 m d y') _ = _
  rw [V2_y]
  funext i
  exact congrArg (m (aLoc d)) (Shape.reshapeEquiv_eq_of_rowMajor _ (Shape.rowMajor_reshapeEquiv _ i).symm)
theorem V3_a (d : Dev nD) : V3 m d a' = m (aLoc d) := by
  rw [V3_ne m d (b := main_arg0) (by decide), V2_ne m d (by decide), V1_ne m d (b := main_arg0) (by decide)]
theorem V3_b (d : Dev nD) : V3 m d b' = m (bLoc d) := by
  rw [V3_ne m d (b := main_arg1) (by decide), V2_ne m d (by decide), V1_ne m d (b := main_arg1) (by decide)]

/-! ## What the call hands out -/

omit [FloatOps F] in
theorem nSub_zero : (K (F := F)).nSub 0 = 16 := rfl
omit [FloatOps F] in
theorem nCore_zero : (K (F := F)).nCore 0 = 2 := rfl

/-- A tile's chunks before its task, and after; a SparseCore's are its sixteen tiles'. -/
def before (d : Dev nD) (c : Fin 2) (s : Fin 16) : sProp 𝕄 := bigSep (Finset.range 32) (fresh d (at' c s) (flat m d) (m (yLoc d)))
def after (d : Dev nD) (c : Fin 2) (s : Fin 16) : sProp 𝕄 := bigSep (Finset.range 32) (copied d (at' c s) (flat m d))
def coreBefore (d : Dev nD) (c : Fin 2) : sProp 𝕄 := bigSep Finset.univ fun s : Fin 16 => before m d c s
def coreAfter (d : Dev nD) (c : Fin 2) : sProp 𝕄 := bigSep Finset.univ fun s : Fin 16 => after m d c s

instance before_storable (d : Dev nD) (c : Fin 2) (s : Fin 16) : BI.Storable (upEmb : UEmb _ 𝕄) (before m d c s) := by unfold before; infer_instance
instance after_storable (d : Dev nD) (c : Fin 2) (s : Fin 16) : BI.Storable (upEmb : UEmb _ 𝕄) (after m d c s) := by unfold after; infer_instance
instance coreBefore_storable (d : Dev nD) (c : Fin 2) : BI.Storable (upEmb : UEmb _ 𝕄) (coreBefore m d c) := by unfold coreBefore; infer_instance
instance coreAfter_storable (d : Dev nD) (c : Fin 2) : BI.Storable (upEmb : UEmb _ 𝕄) (coreAfter m d c) := by unfold coreAfter; infer_instance

/-- The call's hand-outs: to each SparseCore its chunks of the flat input and of the flat output, to each task its own; and
    back. -/
def P : (K (F := F)).Pay (nD := nD) (Val := Elt F) (Name := ℕ) (U := UU) where
  st := fun q d c => match q with | 0 => coreBefore m d (Fin.cast nCore_zero c)
  dn := fun q d c => match q with | 0 => coreAfter m d (Fin.cast nCore_zero c)
  go := fun q d c i => match q with | 0 => before m d (Fin.cast nCore_zero c) (Fin.cast nSub_zero i)
  td := fun q d c i => match q with | 0 => after m d (Fin.cast nCore_zero c) (Fin.cast nSub_zero i)
  x := fun _ _ => iprop(emp)

instance P_storable : (P (F := F) m).IsStorable where
  st q d c := match q with | 0 => (inferInstance : BI.Storable (upEmb : UEmb _ 𝕄) (coreBefore m d (Fin.cast nCore_zero c)))
  dn q d c := match q with | 0 => (inferInstance : BI.Storable (upEmb : UEmb _ 𝕄) (coreAfter m d (Fin.cast nCore_zero c)))
  go q d c i := match q with | 0 => (inferInstance : BI.Storable (upEmb : UEmb _ 𝕄) (before m d (Fin.cast nCore_zero c) (Fin.cast nSub_zero i)))
  td q d c i := match q with | 0 => (inferInstance : BI.Storable (upEmb : UEmb _ 𝕄) (after m d (Fin.cast nCore_zero c) (Fin.cast nSub_zero i)))

/-- All the SparseCores' hand-outs are the two arrays whole, and what comes back is the two arrays whole, the output at the
    input's elements. -/
theorem all_before (d : Dev nD) :
    (bigSep Finset.univ fun c : Fin ((K (F := F)).nCore 0) => (P m).st 0 d c) = iprop((xLoc d ↦{fullShare} flat m d) ∗ yLoc d ↦{fullShare} m (yLoc d)) := by
  show (bigSep (Finset.univ : Finset (Fin 2)) fun c => coreBefore m d c) = _
  unfold coreBefore
  rw [in_chunks, out_chunks, ← bigSep_sep']
  refine bigSep_congr fun c _ => ?_
  rw [← bigSep_sep']
  refine bigSep_congr fun s _ => ?_
  unfold before
  rw [← bigSep_sep']
theorem all_after (d : Dev nD) :
    (bigSep Finset.univ fun c : Fin ((K (F := F)).nCore 0) => (P m).dn 0 d c) = iprop((xLoc d ↦{fullShare} flat m d) ∗ yLoc d ↦{fullShare} flat m d) := by
  show (bigSep (Finset.univ : Finset (Fin 2)) fun c => coreAfter m d c) = _
  unfold coreAfter
  rw [in_chunks, out_chunks, ← bigSep_sep']
  refine bigSep_congr fun c _ => ?_
  rw [← bigSep_sep']
  refine bigSep_congr fun s _ => ?_
  unfold after
  rw [← bigSep_sep']

omit [FloatOps F] in
/-- Something over the call's tasks of a SparseCore, over sixteen. -/
theorem over_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

omit [FloatOps F] in
/-- What is dealt as it is comes back as it is. -/
theorem deal {A B G T : sProp 𝕄} (hA : A = G) (hB : B = T) : A ⊢ |={Set.univ}=> iprop(G ∗ (T -∗ B)) := by
  subst hA hB
  iintro H; imodintro
  isplitl [H]; · iexact H
  iintro H; iexact H

/-- What a SparseCore is handed is what its tasks are, and what its tasks hand back is what it does. -/
theorem st_go (d : Dev nD) (c : Fin ((K (F := F)).nCore 0)) : (P m).st 0 d c = bigSep Finset.univ fun i : Fin ((K (F := F)).nSub 0) => (P m).go 0 d c i :=
  (over_tasks (F := F) (before m d (Fin.cast nCore_zero c))).symm
theorem dn_td (d : Dev nD) (c : Fin ((K (F := F)).nCore 0)) : (P m).dn 0 d c = bigSep Finset.univ fun i : Fin ((K (F := F)).nSub 0) => (P m).td 0 d c i :=
  (over_tasks (F := F) (after m d (Fin.cast nCore_zero c))).symm

/-- A SparseCore's chunks are dealt to its tiles as they are. -/
theorem vecSplit : (K (F := F)).VecSplit' (P m) 0 := fun d c => deal (st_go m d c) (dn_td m d c)

/-! ## A tile's task -/

theorem defs₀_vector (c : Fin τ.nSC) (s : Fin τ.nSub) :
    defs₀ (F := F) (.scVector c s) 0 ()
      = SparseCore.onTile hcore0 hsub0 (fun c s => cc0__sc_copy_body (at' c s) (Memref.whole main_v0_scv) (Memref.isWhole_whole _)
          (Memref.whole main_v1_scv) (Memref.isWhole_whole _) (Memref.whole cc0_scratch0) (Memref.isWhole_whole _) cc0_scratch1 cc0_scratch2) ⟨⟩ c s := rfl

omit [FloatOps F] in
/-- The waits a task records, as the launch wants them told. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call, at a symbolic SparseCore and subcore. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (at' ⟨_, hci.1⟩ ⟨_, hci.2⟩) (flat m d) (m (yLoc d)) O W hO).trans (wp_mono frame _ _ fun _ => obl_post)

/-! ## The launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

omit [FloatOps F] in
/-- The five arrays, one by one. -/
theorem held_five (d : Dev nD) (W : Valuation τ sig (Elt F)) :
    (held (SparseCore.T d) five W : sProp 𝕄)
      = iprop((aLoc d ↦{fullShare} W a') ∗ (bLoc d ↦{fullShare} W b') ∗ (xLoc d ↦{fullShare} W x') ∗ (yLoc d ↦{fullShare} W y') ∗ rLoc d ↦{fullShare} W r') := by
  unfold held five
  rw [SparseCore.bigSep_insert' (by decide), SparseCore.bigSep_insert' (by decide), SparseCore.bigSep_insert' (by decide),
    SparseCore.bigSep_insert' (by decide), bigSep_singleton]

omit [FloatOps F] in
/-- @main's arrays at the launch are the five. -/
theorem unscoped_five (d : Dev nD) : (unscopedBufs d (fun b => m ((SparseCore.T d).loc b)) : sProp 𝕄) = held (SparseCore.T d) five (V0 m d) := by
  rw [held_five]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- What @main leaves: the arguments as they were, the result at the first argument's elements. -/
abbrev FIN (d : Dev nD) : sProp 𝕄 :=
  iprop((aLoc d ↦{fullShare} m (aLoc d)) ∗ (bLoc d ↦{fullShare} m (bLoc d)) ∗ rLoc d ↦{fullShare} V3 m d r')

/-- After the first reshape. -/
theorem held_V1 (d : Dev nD) : (held (SparseCore.T d) five ((opIn (F := F)).result (V0 m d)) : sProp 𝕄)
    = iprop((aLoc d ↦{fullShare} V1 m d a') ∗ (bLoc d ↦{fullShare} V1 m d b') ∗ (xLoc d ↦{fullShare} flat m d) ∗ (yLoc d ↦{fullShare} m (yLoc d)) ∗ rLoc d ↦{fullShare} V1 m d r') := by
  rw [held_five, ← V1_x m d, ← V1_ne m d (b := main_v1) (by decide)]; rfl
/-- After the call. -/
theorem held_V2 (d : Dev nD) : (held (SparseCore.T d) five (V2 m d) : sProp 𝕄)
    = iprop((aLoc d ↦{fullShare} V1 m d a') ∗ (bLoc d ↦{fullShare} V1 m d b') ∗ (xLoc d ↦{fullShare} flat m d) ∗ (yLoc d ↦{fullShare} flat m d) ∗ rLoc d ↦{fullShare} V1 m d r') := by
  rw [held_five, V2_y, V2_ne m d (b := a') (by decide), V2_ne m d (b := b') (by decide), V2_ne m d (b := x') (by decide), V2_ne m d (b := r') (by decide), V1_x]
/-- At the end. -/
theorem held_V3 (d : Dev nD) : (held (SparseCore.T d) five ((opOut (F := F)).result (V2 m d)) : sProp 𝕄)
    = iprop((aLoc d ↦{fullShare} m (aLoc d)) ∗ (bLoc d ↦{fullShare} m (bLoc d)) ∗ (xLoc d ↦{fullShare} V3 m d x') ∗ (yLoc d ↦{fullShare} V3 m d y') ∗ rLoc d ↦{fullShare} V3 m d r') := by
  rw [held_five, ← V3_a m d, ← V3_b m d]; rfl

theorem in_five : (opIn (F := F)).bufs ⊆ five := show ({a', x'} : Finset (DevRef τ sig)) ⊆ five by decide
theorem out_five : (opOut (F := F)).bufs ⊆ five := show ({y', r'} : Finset (DevRef τ sig)) ⊆ five by decide

/-- @main on a device's TensorCore: the reshape, the call, the reshape back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_five]
  simp only [main, wp_bind, wp_pure]
  iintro ⟨#Hctx, Hst, ⟨Hb, Hheld, Hts, -⟩, -⟩
  iapply (wp_hlo_within 𝒱 (SparseCore.T d) none Set.univ (op := opIn) (S := five) in_five (V := V0 m d)) $$ [Hb Hheld]
  · isplitl [Hb]; · iexact Hb
    iexact Hheld
  iintro ⟨Hb, Hheld⟩
  ihave Hh := (Entails.of_eq (held_V1 (F := F) m d)) $$ Hheld
  icases Hh with ⟨Ha, Hbb, Hx, Hy, Hr⟩
  rw [wp_ret]; imodintro
  iapply ((K (F := F)).wp_run (D (F := F)) 𝒱 (EH := EH) (P := P m) κ d 0) $$ [Hst Hx Hy Hb Hts Ha Hbb Hr]
  isplitr; · iexact Hctx
  isplitl [Hst]; · iexact Hst
  isplitl [Hx Hy]
  · rw [all_before]
    isplitl [Hx]; · iexact Hx
    iexact Hy
  iintro ⟨Hst, Hdn⟩
  ihave Hdn' := (Entails.of_eq (all_after m d)) $$ Hdn
  icases Hdn' with ⟨Hx, Hy⟩
  iapply (wp_hlo_within 𝒱 (SparseCore.T d) none Set.univ (op := opOut) (S := five) out_five (V := V2 m d)) $$ [Hb Ha Hbb Hx Hy Hr]
  · isplitl [Hb]; · iexact Hb
    rw [held_V2]
    isplitl [Ha]; · iexact Ha
    isplitl [Hbb]; · iexact Hbb
    isplitl [Hx]; · iexact Hx
    isplitl [Hy]; · iexact Hy
    iexact Hr
  iintro ⟨Hb, Hheld⟩
  ihave Hh := (Entails.of_eq (held_V3 (F := F) m d)) $$ Hheld
  icases Hh with ⟨Ha, Hbb, -, -, Hr⟩
  rw [wp_ret]; imodintro; imodintro
  isplitl [Hst]; · iexact Hst
  isplitr [Hb Hts]
  · isplitl [Ha]; · iexact Ha
    isplitl [Hbb]; · iexact Hbb
    iexact Hr
  isplitl [Hb] <;> iassumption

/-- What a final state must show of a device's arrays. -/
def fq (d : Dev nD) (s' : Phys nD τ sig (Elt F)) : Prop :=
  s'.mem.mem (aLoc d) = m (aLoc d) ∧ s'.mem.mem (bLoc d) = m (bLoc d) ∧ s'.mem.mem (rLoc d) = V3 m d r'

set_option maxRecDepth 16384 in
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := V3 m d r')) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What the program's run comes to. -/
def QC : PUnit × MemSt nD τ sig (Elt F) → Prop := fun r =>
  (∀ c : Dev nD, r.2.mem (aLoc c) = m (aLoc c) ∧ r.2.mem (bLoc c) = m (bLoc c) ∧ r.2.mem (rLoc c) = V3 m c r') ∧ r.2.sem = fun _ => 0

/-- The program's run, from any memory with zero counters, at any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.Rows.lean ====
/-
  The reference's mathematics: rows read out of an array at some places and written back at the same places leave the array
  as it was, whatever the places are.
-/
module

public import proofs.«01_k».proof.Proof.Gen.ReferenceIdeal.Run
public import Idealize.ShloMosaic.Lib.Pipeline.Value

@[expose] public section

noncomputable section

namespace Cert.Proof.Rows

open Cert.ReferenceIdeal Cert.ReferenceIdeal.Facts₀

open Idealize.ShloMosaic

variable {α : Type}

/-- Updates that each write what the array already holds where they land change nothing. -/
theorem scatter_same {s si u : Shape} {w : Nat} (d : ScatterDims s si u) (x : s.Idx → α) (idx : IVec si w) (upd : u.Idx → α)
    (h : ∀ j r, d.resultIdx? j idx = some r → upd j = x r) : Host.scatter d (fun _ b => b) x idx upd = x := by
  unfold Host.scatter
  generalize List.finRange u.numel = l
  induction l with
  | nil => rfl
  | cons n l ih =>
    rw [List.foldl_cons]
    refine Eq.trans (congrArg (fun y => List.foldl _ y l) ?_) ih
    split
    · rename_i r hr
      funext i
      by_cases hi : i = r
      · rw [if_pos hi, h _ _ hr, hi]
      · rw [if_neg hi]
    · rfl

/-- The dimension numbers of the reference's gather and scatter. -/
abbrev gat := gather_S4x8192x1024_S4x1024x2_S4x1024x1024_2_01_n_n_01_2_111024
abbrev sca := scatter_S4x8192x1024_S4096x2_S4096x1024_1_01_01_1

section Places

variable (p q : IVec S4x1024 32) (p' q' : IVec S4096 32)

/-- The places as pairs of words, by batch and position, and flat. -/
abbrev places : IVec S4x1024x2 32 :=
  concatenate S4x1024x2 2 [⟨S4x1024x1, broadcastInDim S4x1024x1 ![0, 1] bcast_S4x1024_S4x1024x1_0_1 p⟩,
    ⟨S4x1024x1, broadcastInDim S4x1024x1 ![0, 1] bcast_S4x1024_S4x1024x1_0_1 q⟩] concatenates_S4x1024x1_S4x1024x1_S4x1024x2_d2
abbrev flatPlaces : IVec S4096x2 32 :=
  concatenate S4096x2 1 [⟨S4096x1, broadcastInDim S4096x1 ![0] bcast_S4096_S4096x1_0 p'⟩,
    ⟨S4096x1, broadcastInDim S4096x1 ![0] bcast_S4096_S4096x1_0 q'⟩] concatenates_S4096x1_S4096x1_S4096x2_d1

/-- An index of the list of places, and of the flat list. -/
abbrev at2 (b : Fin 4) (t : Fin 1024) : S4x1024.Idx := fun | 0 => b | 1 => t
abbrev at1 (n : Fin 4096) : S4096.Idx := fun | 0 => n

/-- The pairs' two words. -/
theorem places_fst (i : S4x1024x2.Idx) (hi : (i 2).val = 0) : places p q i = p (at2 (i 0) (i 1)) := by
  refine (concatenate_pair_apply_left (s₁ := S4x1024x1) (s₂ := S4x1024x1) 2 _ _ _ i rfl (fun | 0 => i 0 | 1 => i 1 | 2 => (0 : Fin 1)) ?_).trans ?_
  · intro b; match b with
    | 0 => rfl
    | 1 => rfl
    | 2 => exact hi.symm
  · refine congrArg p (funext fun a => ?_)
    match a with
    | 0 => rfl
    | 1 => rfl
theorem places_snd (i : S4x1024x2.Idx) (hi : (i 2).val = 1) : places p q i = q (at2 (i 0) (i 1)) := by
  refine (concatenate_pair_apply_right (s₁ := S4x1024x1) (s₂ := S4x1024x1) 2 _ _ _ i rfl rfl (fun | 0 => i 0 | 1 => i 1 | 2 => (0 : Fin 1)) ?_ ?_).trans ?_
  · intro b hb; match b with
    | 0 => rfl
    | 1 => rfl
    | 2 => exact absurd rfl hb
  · exact hi.symm
  · refine congrArg q (funext fun a => ?_)
    match a with
    | 0 => rfl
    | 1 => rfl
theorem flatPlaces_fst (i : S4096x2.Idx) (hi : (i 1).val = 0) : flatPlaces p' q' i = p' (at1 (i 0)) := by
  refine (concatenate_pair_apply_left (s₁ := S4096x1) (s₂ := S4096x1) 1 _ _ _ i rfl (fun | 0 => i 0 | 1 => (0 : Fin 1)) ?_).trans ?_
  · intro b; match b with
    | 0 => rfl
    | 1 => exact hi.symm
  · refine congrArg p' (funext fun a => ?_)
    match a with
    | 0 => rfl
theorem flatPlaces_snd (i : S4096x2.Idx) (hi : (i 1).val = 1) : flatPlaces p' q' i = q' (at1 (i 0)) := by
  refine (concatenate_pair_apply_right (s₁ := S4096x1) (s₂ := S4096x1) 1 _ _ _ i rfl rfl (fun | 0 => i 0 | 1 => (0 : Fin 1)) ?_ ?_).trans ?_
  · intro b hb; match b with
    | 0 => rfl
    | 1 => exact absurd rfl hb
  · exact hi.symm
  · refine congrArg q' (funext fun a => ?_)
    match a with
    | 0 => rfl

/-- Where the scatter's update `j` starts, axis by axis, and its place in its window. -/
theorem sca_start (j : S4096x1024.Idx) :
    sca.start j (flatPlaces p' q') 0 = (p' (at1 (j 0))).toInt ∧ sca.start j (flatPlaces p' q') 1 = (q' (at1 (j 0))).toInt
      ∧ sca.start j (flatPlaces p' q') 2 = 0 :=
  ⟨congrArg BitVec.toInt (flatPlaces_fst p' q' _ rfl), congrArg BitVec.toInt (flatPlaces_snd p' q' _ rfl), rfl⟩
theorem sca_window (j : S4096x1024.Idx) : sca.window j 0 = 0 ∧ sca.window j 1 = 0 ∧ sca.window j 2 = (j 1).val := ⟨rfl, rfl, rfl⟩

/-- Where the gather's element `k` is read from, axis by axis. -/
theorem gat_start (k : S4x1024x1024.Idx) :
    gat.start k (places p q) 0 = min (p (at2 (k 0) (k 1))).toInt.toNat 3 ∧ gat.start k (places p q) 1 = min (q (at2 (k 0) (k 1))).toInt.toNat 8191
      ∧ gat.start k (places p q) 2 = 0 :=
  ⟨congrArg (fun v : BitVec 32 => min v.toInt.toNat 3) (places_fst p q _ rfl), congrArg (fun v : BitVec 32 => min v.toInt.toNat 8191) (places_snd p q _ rfl), rfl⟩
theorem gat_rest (k : S4x1024x1024.Idx) :
    (gat.batchCoord k 0 = 0 ∧ gat.batchCoord k 1 = 0 ∧ gat.batchCoord k 2 = 0) ∧ gat.offCoord k 0 = 0 ∧ gat.offCoord k 1 = 0 ∧ gat.offCoord k 2 = (k 2).val :=
  ⟨⟨rfl, rfl, rfl⟩, rfl, rfl, rfl⟩

/-- Row `n` of the flat list is row `n % 1024` of batch `n / 1024`. -/
theorem flat_row (v : IVec S4x1024 32) (n : Fin 4096) :
    shapeCast S4096 v shapeCasts_S4x1024_S4096 (at1 n) = v (at2 ⟨n.val / 1024, by omega⟩ ⟨n.val % 1024, by omega⟩) := by
  refine congrArg v (Shape.reshapeEquiv_eq_of_rowMajor _ ?_)
  rw [Shape.rowMajor_val_two, Shape.rowMajor_val_one]
  show n.val / 1024 * 1024 + n.val % 1024 = n.val
  omega

/-- The element of the gathered rows that the flat rows hold at `j`. -/
abbrev from3 (j : S4096x1024.Idx) : S4x1024x1024.Idx :=
  fun | 0 => ⟨(j 0).val / 1024, by have : (j 0).val < 4096 := (j 0).isLt; show _ < 4; omega⟩
      | 1 => ⟨(j 0).val % 1024, by show _ < 1024; omega⟩ | 2 => j 1
theorem flat_rows (y : S4x1024x1024.Idx → α) (j : S4096x1024.Idx) :
    shapeCast S4096x1024 y shapeCasts_S4x1024x1024_S4096x1024 j = y (from3 j) := by
  refine congrArg y (Shape.reshapeEquiv_eq_of_rowMajor _ ?_)
  rw [Shape.rowMajor_val_three, Shape.rowMajor_val_two]
  show ((j 0).val / 1024 * 1024 + (j 0).val % 1024) * 1024 + (j 1).val = (j 0).val * 1024 + (j 1).val
  omega

/-- Rows gathered at some places and scattered back there, flattened on the way, leave the array as it was. -/
theorem rows_back (x : S4x8192x1024.Idx → α) :
    Host.scatter sca (fun _ b => b) x (flatPlaces (shapeCast S4096 p shapeCasts_S4x1024_S4096) (shapeCast S4096 q shapeCasts_S4x1024_S4096))
      (shapeCast S4096x1024 (Host.gather gat x (places p q)) shapeCasts_S4x1024x1024_S4096x1024) = x := by
  refine scatter_same _ _ _ _ fun j r hr => ?_
  rw [flat_rows]
  show x (gat.operandIdx (from3 j) (places p q)) = x r
  refine congrArg x ?_
  obtain ⟨s0, s1, s2⟩ := sca_start (shapeCast S4096 p shapeCasts_S4x1024_S4096) (shapeCast S4096 q shapeCasts_S4x1024_S4096) j
  obtain ⟨w0, w1, w2⟩ := sca_window j
  obtain ⟨g0, g1, g2⟩ := gat_start p q (from3 j)
  obtain ⟨⟨b0, b1, b2⟩, o0, o1, o2⟩ := gat_rest (from3 j)
  replace s0 := s0.trans (congrArg BitVec.toInt (flat_row p (j 0)))
  replace s1 := s1.trans (congrArg BitVec.toInt (flat_row q (j 0)))
  unfold ScatterDims.resultIdx? at hr
  split at hr
  case isFalse => exact nomatch hr
  rename_i hin
  obtain rfl := Option.some.inj hr
  have h0 := hin 0
  have h1 := hin 1
  rw [s0, w0] at h0
  rw [s1, w1] at h1
  have e0 : (S4x8192x1024.size 0 : Int) = 4 := rfl
  have e1 : (S4x8192x1024.size 1 : Int) = 8192 := rfl
  rw [e0] at h0
  rw [e1] at h1
  funext a
  refine Fin.ext ?_
  match a with
  | 0 =>
    show gat.start (from3 j) (places p q) 0 + gat.batchCoord (from3 j) 0 + gat.offCoord (from3 j) 0 = (sca.start j _ 0 + sca.window j 0).toNat
    rw [g0, b0, o0, s0, w0]
    show min (p (at2 ⟨(j 0).val / 1024, _⟩ ⟨(j 0).val % 1024, _⟩)).toInt.toNat 3 + 0 + 0 = _
    omega
  | 1 =>
    show gat.start (from3 j) (places p q) 1 + gat.batchCoord (from3 j) 1 + gat.offCoord (from3 j) 1 = (sca.start j _ 1 + sca.window j 1).toNat
    rw [g1, b1, o1, s1, w1]
    show min (q (at2 ⟨(j 0).val / 1024, _⟩ ⟨(j 0).val % 1024, _⟩)).toInt.toNat 8191 + 0 + 0 = _
    omega
  | 2 =>
    show gat.start (from3 j) (places p q) 2 + gat.batchCoord (from3 j) 2 + gat.offCoord (from3 j) 2 = (sca.start j (flatPlaces (shapeCast S4096 p shapeCasts_S4x1024_S4096) (shapeCast S4096 q shapeCasts_S4x1024_S4096)) 2 + sca.window j 2).toNat
    rw [g2, b2, o2, s2, w2]
    show 0 + 0 + (j 1).val = _
    omega

/-- The same, the flat places being given as any lists equal to the places flattened. -/
theorem rows_back_of (x : S4x8192x1024.Idx → α) (hp : p' = shapeCast S4096 p shapeCasts_S4x1024_S4096) (hq : q' = shapeCast S4096 q shapeCasts_S4x1024_S4096) :
    Host.scatter sca (fun _ b => b) x (flatPlaces p' q')
      (shapeCast S4096x1024 (Host.gather gat x (places p q)) shapeCasts_S4x1024x1024_S4096x1024) = x := by
  subst hp hq; exact rows_back p q x

end Places

/-- The words of a place with the negative ones counted from the array's end: the wrap of a list, flattened, is the wrap of the
    flattened list. -/
theorem wrap_flat (p : IVec S4x1024 32) (z n : BitVec 32) :
    (select (cmpi .slt (shapeCast S4096 p shapeCasts_S4x1024_S4096) (broadcastInDim S4096 ![] bcast_S_S4096 (constantI S_ 32 z)))
        (addi (shapeCast S4096 p shapeCasts_S4x1024_S4096) (broadcastInDim S4096 ![] bcast_S_S4096 (constantI S_ 32 n)))
        (shapeCast S4096 p shapeCasts_S4x1024_S4096) : IVec S4096 32)
      = shapeCast S4096 (select (cmpi .slt p (broadcastInDim S4x1024 ![] bcast_S_S4x1024 (constantI S_ 32 z)))
          (addi p (broadcastInDim S4x1024 ![] bcast_S_S4x1024 (constantI S_ 32 n))) p) shapeCasts_S4x1024_S4096 := rfl

section Run

open Idealize.ShloMosaic.TcCoe Idealize.SL.Sem

variable {F : FTy → Type} [FloatOps F]

/-- The reference's run: the result is the first argument, and the arguments are unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (rows_back_of _ _ _ _ _ (wrap_flat _ _ _) (wrap_flat _ _ _)), (h c).2⟩)
    (Cert.ReferenceIdeal.Value.run m ρ)

end Run

end Cert.Proof.Rows

end
-- ==== Proof.lean ====
/-
  The five claims about the copy of the hidden states.

  * The frames of the kernel and of its ideal reading are its run (`Copy.run_main`, `Proof/Launch.lean`), proved once at any float
    values and read at the two arguments and the counters.
  * The ideal reading replaces nothing, so there is nothing to preserve.
  * The value: the kernel's result is its first argument (`Copy.V3_r`), and so is the reference's (`Rows.run_main`,
    `Proof/Rows.lean`): rows gathered at some places and scattered back at the same places change nothing.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Rows
public import Idealize.ShloMosaic.Adequacy
public import Idealize.ShloMosaic.Init

@[expose] public section

noncomputable section

namespace Cert.Proof

open Idealize.ShloMosaic Idealize.SL.Sem Cert.Kernel

/-- The kernel's frame: its run at the bit-exact float values. -/
theorem frame_kernel : Cert.quiescent_Kernel := fun m ρ _ =>
  (θ_run Cert.KernelIdeal.defs _ _).mono (fun _ h => ⟨fun c => ⟨(h.1 c).1, (h.1 c).2.1⟩, h.2⟩) (Copy.run_main (F := Bits) m ρ)

/-- The ideal reading's frame: the same run at the ideal values. -/
theorem frame_ideal : Cert.quiescent_KernelIdeal := fun m ρ _ =>
  (θ_run Cert.KernelIdeal.defs _ _).mono (fun _ h => ⟨fun c => ⟨(h.1 c).1, (h.1 c).2.1⟩, h.2⟩) (Copy.run_main (F := Ideal) m ρ)

/-- The reference's frame; the reference has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference both return the hidden states. -/
theorem value : Cert.algebraic_KernelIdeal_ReferenceIdeal := fun m ρ m' ρ' _ hag =>
  ⟨fun c => m (Copy.aLoc c),
    (θ_run Cert.KernelIdeal.defs _ _).mono (fun _ h c => ⟨(h.1 c).2.2.trans (Copy.V3_r m c), (h.1 c).1, (h.1 c).2.1⟩) (Copy.run_main (F := Ideal) m ρ),
    (θ_run Cert.ReferenceIdeal.defs _ _).mono (fun _ h c => ⟨(h c).1.trans ((hag c).1), (h c).2⟩)
      (Rows.run_main (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
